-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S768x224x224 : Shape := ⟨3, ![768, 224, 224]⟩
abbrev S224 : Shape := ⟨1, ![224]⟩
abbrev S224x1 : Shape := ⟨2, ![224, 1]⟩
abbrev S1x224 : Shape := ⟨2, ![1, 224]⟩
abbrev S224x224 : Shape := ⟨2, ![224, 224]⟩
abbrev S_ : Shape := ⟨0, ![]⟩
abbrev S48x224x224 : Shape := ⟨3, ![48, 224, 224]⟩
abbrev S10752x224 : Shape := ⟨2, ![10752, 224]⟩
abbrev S1x224x224 : Shape := ⟨3, ![1, 224, 224]⟩

abbrev nBuf : Space → Nat
  | .hbm => 15
  | .vmem => 5
  | .smem => 0
  | _ => 0

abbrev bufTy : (tb : Table) → Fin (tcTables nBuf tb) → BufTy
  | .hbm, ⟨0, _⟩ => ⟨S8x96x224x224, .f32⟩
  | .hbm, ⟨1, _⟩ => ⟨S768x224x224, .f32⟩
  | .hbm, ⟨2, _⟩ => ⟨S224, .i32⟩
  | .hbm, ⟨3, _⟩ => ⟨S224x1, .i32⟩
  | .hbm, ⟨4, _⟩ => ⟨S1x224, .i32⟩
  | .hbm, ⟨5, _⟩ => ⟨S224x224, .i32⟩
  | .hbm, ⟨6, _⟩ => ⟨S224x224, .i32⟩
  | .hbm, ⟨7, _⟩ => ⟨S224x224, .i32⟩
  | .hbm, ⟨8, _⟩ => ⟨S224x224, .i32⟩
  | .hbm, ⟨9, _⟩ => ⟨S_, .i32⟩
  | .hbm, ⟨10, _⟩ => ⟨S224x224, .i32⟩
  | .hbm, ⟨11, _⟩ => ⟨S224x224, .i1⟩
  | .hbm, ⟨12, _⟩ => ⟨S224x224, .f32⟩
  | .hbm, ⟨13, _⟩ => ⟨S768x224x224, .f32⟩
  | .hbm, ⟨14, _⟩ => ⟨S8x96x224x224, .f32⟩
  | .local _ .vmem, ⟨0, _⟩ => ⟨S48x224x224, .f32⟩
  | .local _ .vmem, ⟨1, _⟩ => ⟨S48x224x224, .f32⟩
  | .local _ .vmem, ⟨2, _⟩ => ⟨S224x224, .f32⟩
  | .local _ .vmem, ⟨3, _⟩ => ⟨S48x224x224, .f32⟩
  | .local _ .vmem, ⟨4, _⟩ => ⟨S48x224x224, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S48x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S48x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x96x224x224 : Shape := ⟨4, ![8, 96, 224, 224]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S_, .f32⟩
  | .hbm, ⟨2, _⟩ => ⟨S8x96x224x224, .f32⟩
  | .hbm, ⟨3, _⟩ => ⟨S8x96x224x224, .i1⟩
  | .hbm, ⟨4, _⟩ => ⟨S_, .f32⟩
  | .hbm, ⟨5, _⟩ => ⟨S8x96x224x224, .f32⟩
  | .hbm, ⟨6, _⟩ => ⟨S8x96x224x224, .i1⟩
  | .hbm, ⟨7, _⟩ => ⟨S8x96x224x224, .i1⟩
  | .hbm, ⟨8, _⟩ => ⟨S_, .f32⟩
  | .hbm, ⟨9, _⟩ => ⟨S8x96x224x224, .f32⟩
  | .hbm, ⟨10, _⟩ => ⟨S8x96x224x224, .i1⟩
  | .hbm, ⟨11, _⟩ => ⟨S_, .f32⟩
  | .hbm, ⟨12, _⟩ => ⟨S8x96x224x224, .f32⟩
  | .hbm, ⟨13, _⟩ => ⟨S8x96x224x224, .i1⟩
  | .hbm, ⟨14, _⟩ => ⟨S8x96x224x224, .i1⟩
  | .hbm, ⟨15, _⟩ => ⟨S8x96x224x224, .f32⟩
  | .hbm, ⟨16, _⟩ => ⟨S_, .f32⟩
  | .hbm, ⟨17, _⟩ => ⟨S8x96x224x224, .f32⟩
  | .hbm, ⟨18, _⟩ => ⟨S8x96x224x224, .f32⟩
  | .hbm, ⟨19, _⟩ => ⟨S_, .f32⟩
  | .hbm, ⟨20, _⟩ => ⟨S_, .f32⟩
  | .hbm, ⟨21, _⟩ => ⟨S8x96x224x224, .f32⟩
  | .hbm, ⟨22, _⟩ => ⟨S_, .f32⟩
  | .hbm, ⟨23, _⟩ => ⟨S_, .f32⟩
  | .hbm, ⟨24, _⟩ => ⟨S8x96x224x224, .f32⟩
  | .hbm, ⟨25, _⟩ => ⟨S8x96x224x224, .f32⟩
  | .hbm, ⟨26, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Window.lean ====
/- The mathematics of the average over a 3 x 3 window, apart from both programs.

   A pixel is VALID when it lies strictly between -7/2 and 7/2. The window sum of a real image is stated tap by tap, a tap
   outside the image counting nothing. Three facts are proved: the window sum is two products with the banded 0/1 matrix;
   the window sum of `value + 128 * valid` packs the sum of the valid values and their count in one number; rounding that
   number over 128 gives the count back. -/
module

public import Idealize.ShloMosaic.PureOps.Ideal.Laws

@[expose] public section

noncomputable section

namespace Cert.Window

open Idealize.ShloMosaic

/-- A pixel takes part in an average when it lies strictly between -7/2 and 7/2. -/
def Valid (x : EReal) : Prop := ((-(7 / 2) : ℝ) : EReal) < x ∧ x < ((7 / 2 : ℝ) : EReal)

open Classical in
/-- A valid pixel's value, and zero for any other. -/
def value (x : EReal) : ℝ := if Valid x then x.toReal else 0

open Classical in
/-- One for a valid pixel, and zero for any other. -/
def one (x : EReal) : ℝ := if Valid x then 1 else 0

/-- Position `a - 1 + u` lies in a line of 224 pixels. -/
def Inside (a : Fin 224) (u : Fin 3) : Prop := 1 ≤ a.val + u.val ∧ a.val + u.val - 1 < 224

instance (a : Fin 224) (u : Fin 3) : Decidable (Inside a u) := inferInstanceAs (Decidable (_ ∧ _))

/-- One tap of a line: the pixel at `a - 1 + u`, or zero when that is outside. -/
def tap (g : Fin 224 → ℝ) (a : Fin 224) (u : Fin 3) : ℝ := if h : Inside a u then g ⟨a.val + u.val - 1, h.2⟩ else 0

/-- The sum over the 3 x 3 window around pixel `(a, b)`. -/
def win (f : Fin 224 → Fin 224 → ℝ) (a b : Fin 224) : ℝ := ∑ u : Fin 3, ∑ v : Fin 3, tap (fun k => tap (f k) b v) a u

/-- The banded matrix: one where the two positions are at most one apart. -/
def band (a b : Fin 224) : ℝ := if a.val ≤ b.val + 1 ∧ b.val ≤ a.val + 1 then 1 else 0

/-- What both programs give at pixel `(a, b)` of an image: the average of the valid pixels of its window where the pixel
    exceeds 7/2 in absolute value, and the pixel itself elsewhere. -/
def average (x : Fin 224 → Fin 224 → EReal) (a b : Fin 224) : EReal :=
  if ((7 / 2 : ℝ) : EReal) < max (x a b) (-x a b) then
    Ideal.div ((win (fun k l => value (x k l)) a b : ℝ) : EReal) ((win (fun k l => one (x k l)) a b : ℝ) : EReal)
  else x a b

/-- The banded matrix is symmetric. -/
theorem band_comm (a b : Fin 224) : band a b = band b a := by
  unfold band
  exact if_congr and_comm rfl rfl

/-- The three taps of a line are a row of the banded matrix times the line. -/
theorem sum_tap (g : Fin 224 → ℝ) (a : Fin 224) : ∑ u : Fin 3, tap g a u = ∑ k : Fin 224, band a k * g k := by
  have hb : ∀ k : Fin 224, band a k * g k = ∑ u : Fin 3, if a.val + u.val = k.val + 1 then g k else 0 := by
    intro k
    rw [Fin.sum_univ_three]
    have h0 : ((0 : Fin 3) : ℕ) = 0 := rfl
    have h1 : ((1 : Fin 3) : ℕ) = 1 := rfl
    have h2 : ((2 : Fin 3) : ℕ) = 2 := rfl
    rw [h0, h1, h2, band]
    split_ifs <;> first | omega | simp
  rw [Finset.sum_congr rfl fun k _ => hb k, Finset.sum_comm]
  refine Finset.sum_congr rfl fun u _ => ?_
  unfold tap
  by_cases h : Inside a u
  · obtain ⟨h1, h2⟩ := h
    rw [dif_pos ⟨h1, h2⟩, Finset.sum_eq_single ⟨a.val + u.val - 1, h2⟩]
    · rw [if_pos (by simp only []; omega)]
    · intro k _ hk
      rw [if_neg]
      intro he
      exact hk (Fin.ext (by simp only []; omega))
    · intro hn
      exact absurd (Finset.mem_univ _) hn
  · rw [dif_neg h]
    refine (Finset.sum_eq_zero fun k _ => if_neg fun he => h ?_).symm
    have := k.isLt
    exact ⟨by omega, by omega⟩

/-- A tap of a sum of three lines is the sum of their taps. -/
theorem tap_sum (f : Fin 3 → Fin 224 → ℝ) (a : Fin 224) (u : Fin 3) :
    ∑ v : Fin 3, tap (f v) a u = tap (fun k => ∑ v : Fin 3, f v k) a u := by
  unfold tap
  by_cases h : Inside a u
  · simp only [dif_pos h]
  · simp only [dif_neg h, Finset.sum_const_zero]

/-- The window sum is the image between two banded matrices. -/
theorem win_eq_band (f : Fin 224 → Fin 224 → ℝ) (a b : Fin 224) :
    win f a b = ∑ k : Fin 224, band a k * ∑ l : Fin 224, f k l * band l b := by
  unfold win
  rw [Finset.sum_congr rfl fun u _ => tap_sum (fun v k => tap (f k) b v) a u, sum_tap]
  refine Finset.sum_congr rfl fun k _ => ?_
  rw [sum_tap]
  exact congrArg _ (Finset.sum_congr rfl fun l _ => by rw [band_comm b l, mul_comm])

/-- A tap is linear. -/
theorem tap_lin (f g : Fin 224 → ℝ) (c : ℝ) (a : Fin 224) (u : Fin 3) :
    tap (fun k => f k + c * g k) a u = tap f a u + c * tap g a u := by
  unfold tap
  by_cases h : Inside a u
  · simp only [dif_pos h]
  · simp only [dif_neg h, mul_zero, add_zero]

/-- The window sum is linear. -/
theorem win_lin (f g : Fin 224 → Fin 224 → ℝ) (c : ℝ) (a b : Fin 224) :
    win (fun k l => f k l + c * g k l) a b = win f a b + c * win g a b := by
  unfold win
  simp only [tap_lin, Finset.sum_add_distrib, Finset.mul_sum]

/-- A tap is no larger than the largest pixel of its line. -/
theorem abs_tap_le (g : Fin 224 → ℝ) (B : ℝ) (hB : 0 ≤ B) (hg : ∀ k, |g k| ≤ B) (a : Fin 224) (u : Fin 3) :
    |tap g a u| ≤ B := by
  unfold tap
  by_cases h : Inside a u
  · rw [dif_pos h]; exact hg _
  · rw [dif_neg h, abs_zero]; exact hB

/-- A window sum is at most nine times the largest pixel. -/
theorem abs_win_le (f : Fin 224 → Fin 224 → ℝ) (B : ℝ) (hB : 0 ≤ B) (hf : ∀ k l, |f k l| ≤ B) (a b : Fin 224) :
    |win f a b| ≤ 9 * B := by
  have h : ∀ u v : Fin 3, |tap (fun k => tap (f k) b v) a u| ≤ B := fun u v =>
    abs_tap_le _ B hB (fun k => abs_tap_le _ B hB (hf k) b v) a u
  have hrow : ∀ u : Fin 3, |∑ v : Fin 3, tap (fun k => tap (f k) b v) a u| ≤ 3 * B := fun u =>
    (Finset.abs_sum_le_sum_abs _ _).trans (by
      rw [Fin.sum_univ_three]; linarith [h u 0, h u 1, h u 2])
  refine (Finset.abs_sum_le_sum_abs _ _).trans ?_
  rw [Fin.sum_univ_three]
  linarith [hrow 0, hrow 1, hrow 2]

/-- The window sum of a 0/1 image is a whole number. -/
theorem win_one_int (x : Fin 224 → Fin 224 → EReal) (a b : Fin 224) :
    ∃ n : ℤ, win (fun k l => one (x k l)) a b = (n : ℝ) := by
  have h : ∀ u v : Fin 3, ∃ n : ℤ, tap (fun k => tap (fun l => one (x k l)) b v) a u = (n : ℝ) := by
    intro u v
    unfold tap
    by_cases hu : Inside a u
    · by_cases hv : Inside b v
      · simp only [dif_pos hu, dif_pos hv]
        unfold one
        split_ifs
        · exact ⟨1, Int.cast_one.symm⟩
        · exact ⟨0, Int.cast_zero.symm⟩
      · simp only [dif_pos hu, dif_neg hv]
        exact ⟨0, Int.cast_zero.symm⟩
    · simp only [dif_neg hu]
      exact ⟨0, Int.cast_zero.symm⟩
  choose n hn using h
  refine ⟨∑ u : Fin 3, ∑ v : Fin 3, n u v, ?_⟩
  unfold win
  push_cast
  exact Finset.sum_congr rfl fun u _ => Finset.sum_congr rfl fun v _ => hn u v

/-- A valid pixel is a real number of absolute value below 7/2. -/
theorem exists_real_of_valid {x : EReal} (h : Valid x) : ∃ r : ℝ, x = (r : EReal) ∧ |r| < 7 / 2 := by
  obtain ⟨h1, h2⟩ := h
  induction x using EReal.rec with
  | bot => exact absurd h1 not_lt_bot
  | top => exact absurd h2 not_top_lt
  | coe r => exact ⟨r, rfl, abs_lt.2 ⟨EReal.coe_lt_coe_iff.1 h1, EReal.coe_lt_coe_iff.1 h2⟩⟩

/-- A masked pixel is at most 7/2 in absolute value. -/
theorem abs_value_le (x : EReal) : |value x| ≤ 7 / 2 := by
  unfold value
  split_ifs with h
  · obtain ⟨r, rfl, hr⟩ := exists_real_of_valid h
    rw [EReal.toReal_coe]
    exact hr.le
  · rw [abs_zero]; norm_num

/-- A pixel is valid when its absolute value is below 7/2. -/
theorem valid_iff (x : EReal) : Valid x ↔ max x (-x) < ((7 / 2 : ℝ) : EReal) := by
  unfold Valid
  rw [max_lt_iff, EReal.neg_lt_comm, ← EReal.coe_neg]
  exact and_comm

/-- A pixel is on one side of the band [-7/2, 7/2] when its absolute value exceeds 7/2. -/
theorem faulty_iff (x : EReal) :
    (x < ((-(7 / 2) : ℝ) : EReal) ∨ ((7 / 2 : ℝ) : EReal) < x) ↔ ((7 / 2 : ℝ) : EReal) < max x (-x) := by
  rw [lt_max_iff, EReal.lt_neg_comm, ← EReal.coe_neg]
  exact or_comm

open Classical in
/-- The masked pixel of a sum, as a real number. -/
theorem value_coe (x : EReal) : (if Valid x then x else 0) = ((value x : ℝ) : EReal) := by
  unfold value
  split_ifs with h
  · obtain ⟨r, rfl, -⟩ := exists_real_of_valid h
    rw [EReal.toReal_coe]
  · rfl

/-- The packed pixel: `x + 128` when valid and zero otherwise, as a real number. -/
theorem packed_coe (x : EReal) :
    (if max x (-x) < ((7 / 2 : ℝ) : EReal) then x + ((128 : ℝ) : EReal) else 0)
      = ((value x + 128 * one x : ℝ) : EReal) := by
  unfold value one
  by_cases h : Valid x
  · rw [if_pos ((valid_iff x).1 h), if_pos h, if_pos h]
    obtain ⟨r, rfl, -⟩ := exists_real_of_valid h
    rw [EReal.toReal_coe, mul_one, EReal.coe_add]
  · rw [if_neg (fun hh => h ((valid_iff x).2 hh)), if_neg h, if_neg h]
    simp

/-- A number closer than 1/2 to a whole number rounds to it. -/
theorem roundHalfEven_near (n : ℤ) (r : ℝ) (h : |r - n| < 1 / 2) : Ideal.roundHalfEven r = n := by
  obtain ⟨h1, h2⟩ := abs_lt.1 h
  unfold Ideal.roundHalfEven
  by_cases hr : (n : ℝ) ≤ r
  · have hf : ⌊r⌋ = n := Int.floor_eq_iff.2 ⟨hr, by linarith⟩
    simp only [hf]
    rw [if_pos (by linarith)]
  · have hf : ⌊r⌋ = n - 1 := Int.floor_eq_iff.2 ⟨by push_cast; linarith, by push_cast; linarith [not_le.1 hr]⟩
    simp only [hf]
    push_cast
    rw [if_neg (by linarith), if_pos (by linarith)]
    omega

/-- Rounding the packed window sum over 128 gives the number of valid pixels. -/
theorem round_packed (x : Fin 224 → Fin 224 → EReal) (a b : Fin 224) :
    ((Ideal.roundHalfEven (win (fun k l => value (x k l) + 128 * one (x k l)) a b * (1 / 128)) : ℤ) : ℝ)
      = win (fun k l => one (x k l)) a b := by
  obtain ⟨n, hn⟩ := win_one_int x a b
  rw [win_lin, hn]
  refine congrArg _ (roundHalfEven_near n _ ?_)
  have hv := abs_win_le (fun k l => value (x k l)) (7 / 2) (by norm_num) (fun k l => abs_value_le _) a b
  obtain ⟨h1, h2⟩ := abs_le.1 hv
  rw [abs_lt]
  constructor <;> linarith

/-- The packed window sum, read apart by rounding and divided, is the window's average. -/
theorem unpack (x : Fin 224 → Fin 224 → EReal) (a b : Fin 224) (s : EReal)
    (hs : s = ((win (fun k l => value (x k l) + 128 * one (x k l)) a b : ℝ) : EReal)) :
    Ideal.div (s - ((128 : ℝ) : EReal) * Ideal.liftRound Ideal.roundHalfEven (s * ((1 / 128 : ℝ) : EReal)))
        (Ideal.liftRound Ideal.roundHalfEven (s * ((1 / 128 : ℝ) : EReal)))
      = Ideal.div ((win (fun k l => value (x k l)) a b : ℝ) : EReal) ((win (fun k l => one (x k l)) a b : ℝ) : EReal) := by
  rw [hs, ← EReal.coe_mul, Ideal.liftRound_coe, round_packed, ← EReal.coe_mul, ← EReal.coe_sub, win_lin, add_sub_cancel_right]

/-- A finite sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The bit pattern of -3.5. -/
theorem ofBits_neg : Ideal.ofBits .f32 0xC0600000#32 = ((-(7 / 2) : ℝ) : EReal) := by
  simp [Ideal.ofBits, Ideal.ieee, -EReal.coe_mul, -EReal.coe_neg]; norm_num

/-- The bit pattern of 3.5. -/
theorem ofBits_pos : Ideal.ofBits .f32 0x40600000#32 = ((7 / 2 : ℝ) : EReal) := by
  simp [Ideal.ofBits, Ideal.ieee, -EReal.coe_mul, -EReal.coe_neg]; norm_num

/-- The bit pattern of 128. -/
theorem ofBits_128 : Ideal.ofBits .f32 0x43000000#32 = ((128 : ℝ) : EReal) := by
  simp [Ideal.ofBits, Ideal.ieee, -EReal.coe_mul, -EReal.coe_neg]; norm_num

/-- The bit pattern of 1/128. -/
theorem ofBits_inv128 : Ideal.ofBits .f32 0x3C000000#32 = ((1 / 128 : ℝ) : EReal) := by
  simp [Ideal.ofBits, Ideal.ieee, -EReal.coe_mul, -EReal.coe_neg]; norm_num

end Cert.Window

end
-- ==== Proof.Block.lean ====
module

public import proofs.«01_k».proof.Proof.Gen.KernelIdeal.Frame
public import proofs.«01_k».proof.Proof.Window
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.Window Idealize.ShloMosaic

/-- Image `i` of a product with the banded matrix on the left: what the body computes for each image of a block. -/
def prod (P : FVec Ideal S48x224x224 .f32) (T : FVec Ideal S224x224 .f32) (i : Fin 48) (h w : Fin 224) : EReal :=
  ∑ k : Fin 224, T (ix2 h k) * P (ix3 i k w)

/-- One image of the block cut out, multiplied and put back as a slab of one image. -/
theorem piece_apply (P : FVec Ideal S48x224x224 .f32) (T : FVec Ideal S224x224 .f32) (n : ℕ)
    (hs : Shape.Slices S48x224x224 ![n, 0, 0] S1x224x224) (i : S1x224x224.Idx) (j : Fin 48) (h w : Fin 224)
    (hj : (j : ℕ) = n) (h1 : (i 1 : ℕ) = h) (h2 : (i 2 : ℕ) = w) :
    shapeCast S1x224x224 (matmul dot_S224x224_S224x224_S224x224_1_0_0_1_n_n none T
      (shapeCast S224x224 (extractStridedSlice S1x224x224 ![n, 0, 0] P hs) shapeCasts_S1x224x224_S224x224)
      (constant S224x224 .f32 0x00000000#32)) shapeCasts_S224x224_S1x224x224 i = prod P T j h w := by
  idx_vars i
  obtain rfl : i1 = h := Fin.ext h1
  obtain rfl : i2 = w := Fin.ext h2
  unfold prod
  subst hj
  pointwise

/-- The banded matrix block as the body loads it. -/
theorem pay7_apply (x1 : Vec Ideal S224x224 .f32) (h k : Fin 224) : k0_pay7 x1 (ix2 h k) = x1 (ix2 h k) := by
  pointwise [k0_pay7]

/-- The packed block times the banded matrix, at an index. -/
theorem pay6_apply (x0 : Vec Ideal S48x224x224 .f32) (x1 : Vec Ideal S224x224 .f32) (i : Fin 48) (k w : Fin 224) :
    k0_pay6 x0 x1 (ix3 i k w) = ∑ l : Fin 224,
      (if max (x0 (ix3 i k l)) (-x0 (ix3 i k l)) < Ideal.ofBits .f32 0x40600000#32
        then x0 (ix3 i k l) + Ideal.ofBits .f32 0x43000000#32 else 0) * x1 (ix2 l w) := by
  pointwise [k0_pay6, k0_pay4, k0_pay3]
  rfl

/-- The product of a packed block is the packed window sum. -/
theorem prod_eq (x0 : Vec Ideal S48x224x224 .f32) (x1 : Vec Ideal S224x224 .f32)
    (hx1 : ∀ a b : Fin 224, x1 (ix2 a b) = ((band a b : ℝ) : EReal)) (i : Fin 48) (h w : Fin 224) :
    prod (k0_pay6 x0 x1) (k0_pay7 x1) i h w
      = ((win (fun k l => value (x0 (ix3 i k l)) + 128 * one (x0 (ix3 i k l))) h w : ℝ) : EReal) := by
  unfold prod
  rw [win_eq_band, coe_sum]
  refine Finset.sum_congr rfl fun k _ => ?_
  rw [pay7_apply, hx1, pay6_apply, EReal.coe_mul, coe_sum]
  refine congrArg _ (Finset.sum_congr rfl fun l _ => ?_)
  rw [ofBits_pos, ofBits_128, packed_coe, hx1, EReal.coe_mul]

/-- A block of the output: each pixel is the average of its image's window. -/
theorem out_apply (x0 : Vec Ideal S48x224x224 .f32) (x1 : Vec Ideal S224x224 .f32)
    (hx1 : ∀ a b : Fin 224, x1 (ix2 a b) = ((band a b : ℝ) : EReal)) (i : Fin 48) (h w : Fin 224) :
    out0_2 x0 x1 (ix3 i h w) = average (fun k l => x0 (ix3 i k l)) h w := by
  unfold_out out0_2
  frame_out
  pointwise [k0_pay2, k0_pay3, k0_pay5, k0_pay4]
  generalize hs : k0_pay1 _ _ _ _ _ _ _ _ _ _ _ _ _ _ _ _ _ _ _ _ _ _ _ _ _ _ _ _ _ _ _ _ _ _ _ _ _ _ _ _ _ _ _ _ _ _ _ _ (ix3 i h w) = s
  have key : s = prod (k0_pay6 x0 x1) (k0_pay7 x1) i h w := by
    rw [← hs]
    unfold k0_pay1
    concat_tiles q hq <;> exact piece_apply (k0_pay6 x0 x1) (k0_pay7 x1) _ (by decide) q i h w hq ‹(q 1 : ℕ) = _› ‹(q 2 : ℕ) = _›
  rw [prod_eq x0 x1 hx1] at key
  rw [ofBits_pos, ofBits_128, ofBits_inv128, unpack (fun k l => x0 (ix3 i k l)) h w s key]
  rfl

end Cert.KernelIdeal.Block

end
-- ==== Proof.Array.lean ====
/- The kernel's result array: every block holds the averages of its images, the blocks cover the array, and the last
   reshape reads the array as 8 x 96 images. -/
module

public import proofs.«01_k».proof.Proof.Block
public import Idealize.ShloMosaic.Lib.Claim
public import Idealize.ShloMosaic.Lib.StableHlo.ReadAt

@[expose] public section

set_option maxRecDepth 16384

noncomputable section

namespace Cert.KernelIdeal.Array

open Cert.KernelIdeal Cert.KernelIdeal.Gen Cert.KernelIdeal.Block Cert.Window
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host's comparison of 32-bit positions says whether two positions are at most one apart. -/
theorem near_word : ∀ a b : Fin 224,
    IntOp.cmpi .sle (IntOp.absi (IntOp.subi (BitVec.ofNat 32 a.val) (BitVec.ofNat 32 b.val))) 1#32
      = BitVec.ofBool (decide (a.val ≤ b.val + 1 ∧ b.val ≤ a.val + 1)) := by
  intro a b
  have ha := a.isLt
  have hb := b.isLt
  have hs : (BitVec.ofNat 32 a.val - BitVec.ofNat 32 b.val).toInt = (a.val : ℤ) - b.val := by
    have e : ∀ n : ℕ, n < 224 → (BitVec.ofNat 32 n).toInt = (n : ℤ) := fun n hn => by
      rw [BitVec.toInt_ofNat']
      simp only [Int.bmod_def]
      omega
    rw [BitVec.toInt_sub, e _ ha, e _ hb]
    simp only [Int.bmod_def]
    omega
  show BitVec.ofBool ((if (BitVec.ofNat 32 a.val - BitVec.ofNat 32 b.val).msb then
    -(BitVec.ofNat 32 a.val - BitVec.ofNat 32 b.val) else BitVec.ofNat 32 a.val - BitVec.ofNat 32 b.val).sle 1#32) = _
  generalize BitVec.ofNat 32 a.val - BitVec.ofNat 32 b.val = d at hs ⊢
  refine congrArg _ (decide_eq_decide.2 ?_)
  have h1 : (1#32).toInt = 1 := rfl
  rw [BitVec.msb_eq_toInt, h1]
  split_ifs with h
  · have := of_decide_eq_true h
    rw [BitVec.toInt_neg, hs]
    simp only [Int.bmod_def]
    omega
  · have : ¬ d.toInt < 0 := fun hh => h (decide_eq_true hh)
    rw [hs]
    omega

/-- The banded matrix that the host passes to the kernel. -/
theorem matrix_apply (c : Dev nD) (a b : Fin 224) : V m c main_v10 (ix2 a b) = ((band a b : ℝ) : EReal) := by
  unfold V V0
  after_reads_at
  rw [near_word]
  unfold band
  by_cases h : a.val ≤ b.val + 1 ∧ b.val ≤ a.val + 1
  · rw [if_pos h, decide_eq_true h]
    simp [FloatOps.uitofp]
  · rw [if_neg h, decide_eq_false h]
    simp [FloatOps.uitofp]

/-- The images as the kernel reads them: the argument with its two leading axes joined. -/
theorem images_apply (c : Dev nD) (n : Fin 768) (k l : Fin 224) :
    V m c main_v0 (ix3 n k l) = m ((c : Thread nD τ).loc main_arg0)
      (ix4 ⟨n.val / 96, by omega⟩ ⟨n.val % 96, by omega⟩ k l) := by
  unfold V V0
  after_reads_at

/-- Point `t` reads the block of images with the point's number. -/
theorem idx_in (t : Fin cfg0.N) : win0_0.index t = ![(grid0.coords t 0).val, 0, 0] :=
  (by decide +kernel : ∀ t : Fin grid0.N, win0_0.index t = ![(grid0.coords t 0).val, 0, 0]) t

/-- Every point reads the whole banded matrix. -/
theorem idx_mat (t : Fin cfg0.N) : win0_1.index t = ![0, 0] :=
  (by decide +kernel : ∀ t : Fin grid0.N, win0_1.index t = ![0, 0]) t

/-- Point `t` writes the block of images with the point's number. -/
theorem idx_out (t : Fin cfg0.N) : win0_2.index t = ![(grid0.coords t 0).val, 0, 0] :=
  (by decide +kernel : ∀ t : Fin grid0.N, win0_2.index t = ![(grid0.coords t 0).val, 0, 0]) t

/-- Every image's averages. -/
def averages (X : FVec Ideal S768x224x224 .f32) : FVec Ideal S768x224x224 .f32 := fun i =>
  average (fun k l => X (ix3 (i 0) k l)) (i 1) (i 2)

/-- After the run the output array holds every image's averages. -/
theorem array_eq (c : Dev nD) : (dats m 0 c).arrAt 2 cfg0.N = averages (V m c main_v0) := by
  refine (dats m 0 c).arrAt_eq_of_covers 2 _ (by decide +kernel) fun t hf y => ?_
  blk_simp
  rw [after0_2]
  obtain ⟨i, h, w, rfl⟩ : ∃ (i : Fin 48) (h w : Fin 224), y = ix3 i h w := ⟨y 0, y 1, y 2, eq_ix3 _⟩
  refine (out_apply _ _ (fun a b => ?_) i h w).trans ?_
  · blk_simp [iblk]
    refine Eq.trans (congrArg _ ?_) (matrix_apply m c a b)
    blk_ext [idx_mat]
  · unfold averages
    blk_simp [iblk]
    have e0 : (win0_2.blk t).view.emb (ix3 i h w) 0 = (win0_0.blk t).view.emb (ix3 i h w) 0 := Fin.ext (by blk_simp [idx_in, idx_out])
    have e1 : (win0_2.blk t).view.emb (ix3 i h w) 1 = h := Fin.ext (by blk_simp [idx_out])
    have e2 : (win0_2.blk t).view.emb (ix3 i h w) 2 = w := Fin.ext (by blk_simp [idx_out])
    rw [e0, e1, e2]
    refine congrArg (fun X => average X h w) (funext fun k => funext fun l => congrArg _ ?_)
    blk_ext [idx_in]

/-- What the kernel's result holds: at pixel `(h, w)` of image `(b, c)` the average of the argument's window. -/
def result (x : FVec Ideal S8x96x224x224 .f32) : FVec Ideal S8x96x224x224 .f32 := fun j =>
  average (fun k l => x (ix4 (j 0) (j 1) k l)) (j 2) (j 3)

/-- The last reshape of the output array is the result. -/
theorem tail_eq (c : Dev nD) : Pipeline.afterTail₀ cfgs (dats m) 0 (V0 m) [hostOps1] c main_v12
    = result (m ((c : Thread nD τ).loc main_arg0)) := by
  have hw : Pipeline.withArrays (cfgs 0).spec c (V0 m c) (fun w => (dats m 0 c).arrAt w (cfgs 0).N) (Proc.devRef .tc main_v11)
      = averages (V m c main_v0) :=
    (Pipeline.withArrays_arr (cfgs 0).spec (by decide) c (V0 m c) (fun w => (dats m 0 c).arrAt w (cfgs 0).N) 2).trans (array_eq m c)
  unfold Pipeline.afterTail₀
  generalize Pipeline.withArrays (cfgs 0).spec c (V0 m c) (fun w => (dats m 0 c).arrAt w (cfgs 0).N) = A at hw ⊢
  funext j
  obtain ⟨b, d, h, w, rfl⟩ : ∃ (b : Fin 8) (d : Fin 96) (h w : Fin 224), j = ix4 b d h w := ⟨j 0, j 1, j 2, j 3, eq_ix4 _⟩
  after_reads_at
  rw [hw]
  unfold averages result
  refine congrArg (fun X => average X h w) (funext fun k => funext fun l => ?_)
  refine (images_apply m c _ k l).trans (congrArg _ ?_)
  have hd := d.isLt
  refine congrArg₂ (fun p q => ix4 p q k l) (Fin.ext ?_) (Fin.ext ?_)
  · show (b.val * 96 + d.val) / 96 = b.val
    omega
  · show (b.val * 96 + d.val) % 96 = d.val
    omega

/-- The kernel's run: the result holds the averages and the argument is unchanged. -/
theorem run : θ_run defs (onTc (τ := τ) (main (F := Ideal))) ⟨m, fun _ => 0, ρ⟩ fun r => ∀ c : Dev nD,
    r.2.mem ((c : Thread nD τ).loc main_v12) = result (m ((c : Thread nD τ).loc main_arg0))
    ∧ r.2.mem ((c : Thread nD τ).loc main_arg0) = m ((c : Thread nD τ).loc main_arg0) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c)⟩)
    (run_main m ρ)

end Cert.KernelIdeal.Array

end
-- ==== Proof.Reference.lean ====
/- The reference's result at an index: its two window reductions are the 3 x 3 window sums, and its result is the average. -/
module

public import proofs.«01_k».proof.Proof.Gen.ReferenceIdeal.Run
public import proofs.«01_k».proof.Proof.Window
public import Idealize.ShloMosaic.Lib.Pointwise

@[expose] public section

set_option maxRecDepth 16384

noncomputable section

namespace Cert.ReferenceIdeal.Average

open Cert.ReferenceIdeal Cert.ReferenceIdeal.Gen Cert.Window Idealize.ShloMosaic

/-- One position of the window reduction, in the image or in its padding. -/
theorem tap_apply (x : FVec Ideal S8x96x224x224 .f32) (f : Fin 8 → Fin 96 → Fin 224 → Fin 224 → ℝ)
    (hx : ∀ b c k l, x (ix4 b c k l) = ((f b c k l : ℝ) : EReal)) (b : Fin 8) (c : Fin 96) (h w : Fin 224)
    (u v : Fin 3) (p : Fin 4 → ℕ) (h0 : p 0 = b) (h1 : p 1 = c) (h2 : p 2 = h.val + u.val) (h3 : p 3 = w.val + v.val)
    {dec : Decidable (∀ a : Fin 4, (![0, 0, 1, 1] : Fin 4 → ℕ) a ≤ p a ∧ p a - (![0, 0, 1, 1] : Fin 4 → ℕ) a < S8x96x224x224.size a)} :
    (if hin : ∀ a : Fin 4, (![0, 0, 1, 1] : Fin 4 → ℕ) a ≤ p a ∧ p a - (![0, 0, 1, 1] : Fin 4 → ℕ) a < S8x96x224x224.size a then
        x (fun a => ⟨p a - (![0, 0, 1, 1] : Fin 4 → ℕ) a, (hin a).2⟩) else (0 : EReal))
      = ((tap (fun k => tap (f b c k) w v) h u : ℝ) : EReal) := by
  by_cases hh : Inside h u ∧ Inside w v
  · obtain ⟨hu, hv⟩ := hh
    have hin : ∀ a : Fin 4, (![0, 0, 1, 1] : Fin 4 → ℕ) a ≤ p a ∧ p a - (![0, 0, 1, 1] : Fin 4 → ℕ) a < S8x96x224x224.size a := by
      intro a
      match a with
      | ⟨0, _⟩ => exact ⟨Nat.zero_le _, h0 ▸ b.isLt⟩
      | ⟨1, _⟩ => exact ⟨Nat.zero_le _, h1 ▸ c.isLt⟩
      | ⟨2, _⟩ => exact ⟨h2 ▸ hu.1, h2 ▸ hu.2⟩
      | ⟨3, _⟩ => exact ⟨h3 ▸ hv.1, h3 ▸ hv.2⟩
    have ht : tap (fun k => tap (f b c k) w v) h u = f b c ⟨h.val + u.val - 1, hu.2⟩ ⟨w.val + v.val - 1, hv.2⟩ := by
      unfold tap
      simp only [dif_pos hu, dif_pos hv]
    rw [dif_pos hin, ht, ← hx]
    refine congrArg x (funext fun a => Fin.ext ?_)
    match a with
    | ⟨0, _⟩ => exact h0
    | ⟨1, _⟩ => exact h1
    | ⟨2, _⟩ => exact congrArg (· - 1) h2
    | ⟨3, _⟩ => exact congrArg (· - 1) h3
  · rw [dif_neg]
    · unfold tap
      by_cases hu : Inside h u
      · simp only [dif_pos hu, dif_neg fun hv => hh ⟨hu, hv⟩]; rfl
      · rw [dif_neg hu]; rfl
    · intro hin
      have e2 : 1 ≤ p 2 ∧ p 2 - 1 < 224 := hin 2
      have e3 : 1 ≤ p 3 ∧ p 3 - 1 < 224 := hin 3
      rw [h2] at e2
      rw [h3] at e3
      exact hh ⟨e2, e3⟩

/-- A left fold of additions over every index below `n`, from zero, is the sum. -/
theorem foldl_add (n : ℕ) (g : Fin n → EReal) : (List.finRange n).foldl (fun r i => r + g i) 0 = ∑ i : Fin n, g i := by
  rw [← List.foldl_map (f := g) (g := fun r e => r + e), ← List.sum_eq_foldl, Fin.sum_univ_def]

/-- A window reduction from zero of an image of reals is the image's 3 x 3 window sum. -/
theorem window_apply (x : FVec Ideal S8x96x224x224 .f32) (v : FVec Ideal S_ .f32) (hv : ∀ j, v j = (0 : EReal))
    (f : Fin 8 → Fin 96 → Fin 224 → Fin 224 → ℝ) (hx : ∀ b c k l, x (ix4 b c k l) = ((f b c k l : ℝ) : EReal))
    (b : Fin 8) (c : Fin 96) (h w : Fin 224) :
    Host.reduceWindowAdd ![1, 1, 3, 3] ![1, 1, 1, 1] ![0, 0, 1, 1] ![0, 0, 1, 1] x v
      reduceWindows_S8x96x224x224_S8x96x224x224_w1s1p0_0_w1s1p0_0_w3s1p1_1_w3s1p1_1 h_S_ (ix4 b c h w)
      = ((win (f b c) h w : ℝ) : EReal) := by
  unfold Host.reduceWindowAdd
  rw [Ideal.hostReduceWindowAdd_def, hv]
  unfold Ideal.hostReduceWindowAdd Host.reduceWindow
  refine (foldl_add _ _).trans ?_
  refine (Fintype.sum_equiv (Shape.rowMajor ⟨4, ![1, 1, 3, 3]⟩).symm _
    (fun i => ((tap (fun k => tap (f b c k) w (i 3)) h (i 2) : ℝ) : EReal)) fun n => ?_).trans ?_
  · refine tap_apply x f hx b c h w _ _ (fun a => ((ix4 b c h w : S8x96x224x224.Idx) a).val * (![1, 1, 1, 1] : Fin 4 → ℕ) a
      + ((Shape.rowMajor ⟨4, ![1, 1, 3, 3]⟩).symm n a).val) ?_ ?_ ?_ ?_
    · have := ((Shape.rowMajor ⟨4, ![1, 1, 3, 3]⟩).symm n 0).isLt
      exact (congrArg (b.val * 1 + ·) (Nat.lt_one_iff.1 this)).trans (Nat.mul_one _)
    · have := ((Shape.rowMajor ⟨4, ![1, 1, 3, 3]⟩).symm n 1).isLt
      exact (congrArg (c.val * 1 + ·) (Nat.lt_one_iff.1 this)).trans (Nat.mul_one _)
    · exact congrArg (· + _) (Nat.mul_one _)
    · exact congrArg (· + _) (Nat.mul_one _)
  rw [sum_idx4, Fin.sum_univ_one, Fin.sum_univ_one]
  unfold win
  rw [coe_sum]
  refine Finset.sum_congr rfl fun u _ => ?_
  rw [coe_sum]
  rfl

/-- The reference's masked pixel. -/
theorem masked_apply (x : FVec Ideal S8x96x224x224 .f32) (b : Fin 8) (c : Fin 96) (h w : Fin 224) :
    (select (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32)))) x (broadcastInDim S8x96x224x224 ![] bcast_S_S8x96x224x224 (constant S_ .f32 0x00000000#32)) : FVec Ideal S8x96x224x224 .f32) (ix4 b c h w) = ((value (x (ix4 b c h w)) : ℝ) : EReal) := by
  classical
  rw [← value_coe]
  pointwise
  rw [ofBits_neg, ofBits_pos]
  unfold Valid
  by_cases h1 : ((-(7 / 2) : ℝ) : EReal) < x (ix4 b c h w) <;> by_cases h2 : x (ix4 b c h w) < ((7 / 2 : ℝ) : EReal) <;>
    simp only [h1, h2, decide_true, decide_false, and_self, and_true, and_false, if_true, if_false] <;> rfl

/-- The reference's mask as a number. -/
theorem mask_apply (x : FVec Ideal S8x96x224x224 .f32) (b : Fin 8) (c : Fin 96) (h w : Fin 224) :
    (uitofp .f32 (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32)))) : FVec Ideal S8x96x224x224 .f32) (ix4 b c h w) = ((one (x (ix4 b c h w)) : ℝ) : EReal) := by
  pointwise
  rw [ofBits_neg, ofBits_pos]
  unfold one Valid
  by_cases h1 : ((-(7 / 2) : ℝ) : EReal) < x (ix4 b c h w) <;> by_cases h2 : x (ix4 b c h w) < ((7 / 2 : ℝ) : EReal) <;>
    simp only [h1, h2, decide_true, decide_false, and_self, and_true, and_false, if_true, if_false] <;>
    simp [FloatOps.uitofp, IntOp.andi]

/-- The reference's result at a pixel is the average of the pixel's window. -/
theorem result_apply (x : FVec Ideal S8x96x224x224 .f32) (b : Fin 8) (c : Fin 96) (h w : Fin 224) :
    (select (ori (cmpf .olt x (broadcastInDim S8x96x224x224 ![] bcast_S_S8x96x224x224 (constant S_ .f32 0xC0600000#32))) (cmpf .ogt x (broadcastInDim S8x96x224x224 ![] bcast_S_S8x96x224x224 (constant S_ .f32 0x40600000#32))))
      (Host.divf
        (Host.reduceWindowAdd ![1, 1, 3, 3] ![1, 1, 1, 1] ![0, 0, 1, 1] ![0, 0, 1, 1] (select (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32)))) x (broadcastInDim S8x96x224x224 ![] bcast_S_S8x96x224x224 (constant S_ .f32 0x00000000#32))) (broadcastInDim S_ ![] bcast_S_S_ (constant S_ .f32 0x00000000#32)) reduceWindows_S8x96x224x224_S8x96x224x224_w1s1p0_0_w1s1p0_0_w3s1p1_1_w3s1p1_1 h_S_)
        (Host.reduceWindowAdd ![1, 1, 3, 3] ![1, 1, 1, 1] ![0, 0, 1, 1] ![0, 0, 1, 1] (uitofp .f32 (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32))))) (broadcastInDim S_ ![] bcast_S_S_ (constant S_ .f32 0x00000000#32)) reduceWindows_S8x96x224x224_S8x96x224x224_w1s1p0_0_w1s1p0_0_w3s1p1_1_w3s1p1_1 h_S_)) x
      : FVec Ideal S8x96x224x224 .f32) (ix4 b c h w) = average (fun k l => x (ix4 b c k l)) h w := by
  generalize hA : (Host.reduceWindowAdd (F := Ideal) ![1, 1, 3, 3] ![1, 1, 1, 1] ![0, 0, 1, 1] ![0, 0, 1, 1] (select (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32)))) x (broadcastInDim S8x96x224x224 ![] bcast_S_S8x96x224x224 (constant S_ .f32 0x00000000#32))) (broadcastInDim S_ ![] bcast_S_S_ (constant S_ .f32 0x00000000#32)) reduceWindows_S8x96x224x224_S8x96x224x224_w1s1p0_0_w1s1p0_0_w3s1p1_1_w3s1p1_1 h_S_) = A
  generalize hB : (Host.reduceWindowAdd (F := Ideal) ![1, 1, 3, 3] ![1, 1, 1, 1] ![0, 0, 1, 1] ![0, 0, 1, 1] (uitofp .f32 (andi (cmpf .ogt x (broadcastInDim S8x96x224x224 ![] bcast_S_S8x96x224x224 (constant S_ .f32 0xC0600000#32))) (cmpf .olt x (broadcastInDim S8x96x224x224 ![] bcast_S_S8x96x224x224 (constant S_ .f32 0x40600000#32))))) (broadcastInDim S_ ![] bcast_S_S_ (constant S_ .f32 0x00000000#32)) reduceWindows_S8x96x224x224_S8x96x224x224_w1s1p0_0_w1s1p0_0_w3s1p1_1_w3s1p1_1 h_S_) = B
  pointwise
  rw [ofBits_neg, ofBits_pos, ← hA, ← hB, window_apply _ _ (fun j => by pointwise) _ (masked_apply x),
    window_apply _ _ (fun j => by pointwise) _ (mask_apply x)]
  unfold average
  refine Eq.trans ?_ (if_congr (faulty_iff (x (ix4 b c h w))) rfl rfl)
  by_cases h1 : x (ix4 b c h w) < ((-(7 / 2) : ℝ) : EReal) <;> by_cases h2 : ((7 / 2 : ℝ) : EReal) < x (ix4 b c h w) <;>
    simp only [h1, h2, decide_true, decide_false, or_self, or_true, or_false, if_true, if_false] <;> rfl

end Cert.ReferenceIdeal.Average

end
-- ==== Proof.lean ====
/- The five claims about the averaging kernel, assembled: the two kernels' and the reference's runs end with their argument
   unchanged and every counter at zero, the idealized kernel is the kernel, and over the extended reals the kernel's
   result and the reference's are the same array. The modules beside this file hold the parts: `Window` the mathematics,
   `Block` what one block computes, `Array` what the kernel's result holds, `Reference` what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Lib.Quiescent
public import Idealize.ShloMosaic.Lib.Claim
public import Idealize.ShloMosaic.Init

@[expose] public section

noncomputable section

namespace Cert.Proof

open Idealize.ShloMosaic Idealize.SL.Sem Cert.Kernel

/-- An array that holds at each pixel the average of its window is the kernel's result. -/
theorem reference_result (x : FVec Ideal Cert.ReferenceIdeal.S8x96x224x224 .f32)
    (y : FVec Ideal Cert.ReferenceIdeal.S8x96x224x224 .f32)
    (h : ∀ b c k l, y (ix4 b c k l) = Cert.Window.average (fun p q => x (ix4 b c p q)) k l) :
    y = Cert.KernelIdeal.Array.result x := by
  funext j
  rw [eq_ix4 j]
  exact h _ _ _ _

/-- All five claims: the three runs' frames, the idealization, and the equality of the two results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems rfl r.2⟩) (Cert.ReferenceIdeal.Value.run m ρ),
  trivial,
  fun m g m' g' _ hagree =>
    ⟨fun c => Cert.KernelIdeal.Array.result (m ((c.tc : Thread _ _).loc Cert.KernelIdeal.main_arg0)),
      Cert.KernelIdeal.Array.run m g,
      (θ_run Cert.ReferenceIdeal.defs _ _).mono
        (fun r h c => ⟨(h c).1.trans ((reference_result _ _ fun b d k l =>
            Cert.ReferenceIdeal.Average.result_apply _ b d k l).trans (congrArg Cert.KernelIdeal.Array.result (hagree c))), (h c).2⟩)
        (Cert.ReferenceIdeal.Value.run m' g')⟩⟩

end Cert.Proof

end
